-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x9216 : Shape := ⟨3, ![4, 8192, 9216]⟩
abbrev S4x8192x1 : Shape := ⟨3, ![4, 8192, 1]⟩
abbrev S9216x4608 : Shape := ⟨2, ![9216, 4608]⟩
abbrev S4608 : Shape := ⟨1, ![4608]⟩
abbrev S4x8192x4608 : Shape := ⟨3, ![4, 8192, 4608]⟩
abbrev S32768x9216 : Shape := ⟨2, ![32768, 9216]⟩
abbrev S32768x1 : Shape := ⟨2, ![32768, 1]⟩
abbrev S1x4608 : Shape := ⟨2, ![1, 4608]⟩
abbrev S32768x4608 : Shape := ⟨2, ![32768, 4608]⟩
abbrev S1024x9216 : Shape := ⟨2, ![1024, 9216]⟩
abbrev S1024x1 : Shape := ⟨2, ![1024, 1]⟩
abbrev S9216x768 : Shape := ⟨2, ![9216, 768]⟩
abbrev S1x768 : Shape := ⟨2, ![1, 768]⟩
abbrev S1024x768 : Shape := ⟨2, ![1024, 768]⟩

abbrev nBuf : Space → Nat
  | .hbm => 11
  | .vmem => 12
  | .smem => 0
  | _ => 0

abbrev bufTy : (tb : Table) → Fin (tcTables nBuf tb) → BufTy
  | .hbm, ⟨0, _⟩ => ⟨S4x8192x9216, .fp8e4m3⟩
  | .hbm, ⟨1, _⟩ => ⟨S4x8192x1, .f32⟩
  | .hbm, ⟨2, _⟩ => ⟨S9216x4608, .fp8e4m3⟩
  | .hbm, ⟨3, _⟩ => ⟨S4608, .f32⟩
  | .hbm, ⟨4, _⟩ => ⟨S4x8192x4608, .bf16⟩
  | .hbm, ⟨5, _⟩ => ⟨S32768x9216, .fp8e4m3⟩
  | .hbm, ⟨6, _⟩ => ⟨S32768x1, .f32⟩
  | .hbm, ⟨7, _⟩ => ⟨S1x4608, .f32⟩
  | .hbm, ⟨8, _⟩ => ⟨S32768x4608, .bf16⟩
  | .hbm, ⟨9, _⟩ => ⟨S32768x4608, .bf16⟩
  | .hbm, ⟨10, _⟩ => ⟨S4x8192x4608, .bf16⟩
  | .local _ .vmem, ⟨0, _⟩ => ⟨S1024x9216, .fp8e4m3⟩
  | .local _ .vmem, ⟨1, _⟩ => ⟨S1024x9216, .fp8e4m3⟩
  | .local _ .vmem, ⟨2, _⟩ => ⟨S1024x1, .f32⟩
  | .local _ .vmem, ⟨3, _⟩ => ⟨S1024x1, .f32⟩
  | .local _ .vmem, ⟨4, _⟩ => ⟨S9216x768, .fp8e4m3⟩
  | .local _ .vmem, ⟨5, _⟩ => ⟨S9216x768, .fp8e4m3⟩
  | .local _ .vmem, ⟨6, _⟩ => ⟨S1x768, .f32⟩
  | .local _ .vmem, ⟨7, _⟩ => ⟨S1x768, .f32⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | _, _ => ⟨S4x8192x9216, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x9216 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S9216x768 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x8192x9216 : Shape := ⟨3, ![4, 8192, 9216]⟩
abbrev S4x8192x1 : Shape := ⟨3, ![4, 8192, 1]⟩
abbrev S9216x4608 : Shape := ⟨2, ![9216, 4608]⟩
abbrev S4608 : Shape := ⟨1, ![4608]⟩
abbrev S4x8192x4608 : Shape := ⟨3, ![4, 8192, 4608]⟩
abbrev S1x1x4608 : Shape := ⟨3, ![1, 1, 4608]⟩

abbrev nBuf : Space → Nat
  | .hbm => 6
  | .vmem => 6
  | .smem => 0
  | _ => 0

abbrev bufTy : (tb : Table) → Fin (tcTables nBuf tb) → BufTy
  | .hbm, ⟨0, _⟩ => ⟨S4x8192x9216, .fp8e4m3⟩
  | .hbm, ⟨1, _⟩ => ⟨S4x8192x1, .f32⟩
  | .hbm, ⟨2, _⟩ => ⟨S9216x4608, .fp8e4m3⟩
  | .hbm, ⟨3, _⟩ => ⟨S4608, .f32⟩
  | .hbm, ⟨4, _⟩ => ⟨S4x8192x4608, .bf16⟩
  | .hbm, ⟨5, _⟩ => ⟨S4x8192x4608, .bf16⟩
  | .local _ .vmem, ⟨0, _⟩ => ⟨S4x8192x9216, .fp8e4m3⟩
  | .local _ .vmem, ⟨1, _⟩ => ⟨S4x8192x1, .f32⟩
  | .local _ .vmem, ⟨2, _⟩ => ⟨S9216x4608, .fp8e4m3⟩
  | .local _ .vmem, ⟨3, _⟩ => ⟨S4608, .f32⟩
  | .local _ .vmem, ⟨4, _⟩ => ⟨S4x8192x4608, .bf16⟩
  | .local _ .vmem, ⟨5, _⟩ => ⟨S4x8192x4608, .bf16⟩
  | _, _ => ⟨S4x8192x9216, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x8192x9216 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9216x4608 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x8192x4608 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x8192x4608 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Spec.lean ====
/-
  Hand-written, untrusted. THE MATHEMATICS of the projection over the extended reals, and the two bodies' payloads read at
  an index: the reference's one payload is the whole function, the kernel's is one block of it.
-/
module

public import proofs.«01_k».proof.Defs
public import proofs.«01_k».proof.Proof.Gen.KernelIdeal.Skeleton
public import proofs.«01_k».proof.Proof.Gen.ReferenceIdeal.Skeleton
public import Idealize.ShloMosaic.Lib.Pointwise.Tactic
public import Idealize.ShloMosaic.Lib.Pointwise.Contract
public import Idealize.ShloMosaic.Lib.Pointwise.Reshape

@[expose] public section

set_option maxRecDepth 16384

noncomputable section

namespace Cert.Proof.Spec

open Idealize.ShloMosaic Idealize.SL.Sem
open scoped BigOperators

/-- One element of the result: a row of the activations times a column of the weights, times the row's scale, times the
    column's scale, plus the residual. -/
def elem (row col : Fin 9216 → EReal) (xs ws r : EReal) : EReal :=
  (∑ k : Fin 9216, row k * col k) * xs * ws + r

/-- The reference's payload at batch `b`, position `s`, output channel `n`. -/
theorem ref_apply (x : Vec Ideal Cert.ReferenceIdeal.S4x8192x9216 .fp8e4m3) (w : Vec Ideal Cert.ReferenceIdeal.S9216x4608 .fp8e4m3)
    (xs : Vec Ideal Cert.ReferenceIdeal.S4x8192x1 .f32) (ws : Vec Ideal Cert.ReferenceIdeal.S4608 .f32)
    (r : Vec Ideal Cert.ReferenceIdeal.S4x8192x4608 .bf16) (b : Fin 4) (s : Fin 8192) (n : Fin 4608) :
    Cert.ReferenceIdeal.Gen.k0_pay1 (F := Ideal) x w xs ws r (ix3 b s n)
      = elem (fun k => x (ix3 b s k)) (fun k => w (ix2 k n)) (xs (ix3 b s 0)) (ws (ix1 n)) (r (ix3 b s n)) := by
  unfold Cert.ReferenceIdeal.Gen.k0_pay1 elem
  pointwise

/-- The kernel's payload at row `p` and column `q` of a block. -/
theorem block_apply (x : Vec Ideal Cert.KernelIdeal.S1024x9216 .fp8e4m3) (w : Vec Ideal Cert.KernelIdeal.S9216x768 .fp8e4m3)
    (xs : Vec Ideal Cert.KernelIdeal.S1024x1 .f32) (ws : Vec Ideal Cert.KernelIdeal.S1x768 .f32)
    (r : Vec Ideal Cert.KernelIdeal.S1024x768 .bf16) (p : Fin 1024) (q : Fin 768) :
    Cert.KernelIdeal.Gen.k0_pay1 (F := Ideal) x w xs ws r (ix2 p q)
      = elem (fun k => x (ix2 p k)) (fun k => w (ix2 k q)) (xs (ix2 p 0)) (ws (ix2 0 q)) (r (ix2 p q)) := by
  unfold Cert.KernelIdeal.Gen.k0_pay1 elem
  pointwise

end Cert.Proof.Spec

end
-- ==== Proof.KernelValue.lean ====
/-
  Hand-written, untrusted. WHAT THE KERNEL COMPUTES over the extended reals: each grid point writes back its block of one
  function of the arrays that the call finds, the blocks cover the call's result, and the host's reshapes before and after
  the call carry that function to the arguments and to the program's result.
-/
module

public import proofs.«01_k».proof.Proof.Spec
public import proofs.«01_k».proof.Proof.Gen.KernelIdeal.Frame
public import Idealize.ShloMosaic.Lib.Pipeline.Value
public import Idealize.ShloMosaic.Lib.Claim

@[expose] public section

set_option maxRecDepth 16384

noncomputable section

namespace Cert.Proof.KernelValue

open Cert.KernelIdeal Cert.KernelIdeal.Gen Idealize.ShloMosaic Idealize.ShloMosaic.TcCoe Idealize.SL.Sem
open Idealize.ShloMosaic.Pipeline (Dat)

/-! ## One grid point -/

section Generic
variable {F : FTy → Type} [FloatOps F]

/-- The offset of a whole rank-two block is zero on both axes. -/
theorem hz2 : (![0, 0] : Fin 2 → Nat) = fun _ => 0 := funext fun a => by fin_cases a <;> rfl

/-- Loads of whole blocks read the blocks, and the one covering store leaves its payload. -/
theorem out_eq (x0 : Vec F S1024x9216 .fp8e4m3) (x1 : Vec F S1024x1 .f32) (x2 : Vec F S9216x768 .fp8e4m3)
    (x3 : Vec F S1x768 .f32) (x4 : Vec F S1024x768 .bf16) :
    out0_5 (F := F) x0 x1 x2 x3 x4 = k0_pay1 x0 x2 x1 x3 x4 := by
  unfold out0_5
  rw [View.canon_unit_zero hz2, View.ld_unit_zero (S := S1024x9216) hz2 _ x0, View.ld_unit_zero (S := S9216x768) hz2 _ x2,
    View.ld_unit_zero (S := S1024x1) hz2 _ x1, View.ld_unit_zero (S := S1x768) hz2 _ x3,
    View.ld_unit_zero (S := S1024x768) hz2 _ x4]
end Generic

/-- The blocks' places at grid point `t`: row block `t / 6`, column block `t % 6`; the activations, their scales and the
    residual move down the rows, the weights, their scales and the residual along the columns. -/
theorem idx_facts : ∀ t : Fin cfg0.N,
    (win0_5.index t (0 : Fin 2) = t.val / 6 ∧ win0_5.index t (1 : Fin 2) = t.val % 6)
    ∧ (win0_0.index t (0 : Fin 2) = t.val / 6 ∧ win0_0.index t (1 : Fin 2) = 0)
    ∧ (win0_1.index t (0 : Fin 2) = t.val / 6 ∧ win0_1.index t (1 : Fin 2) = 0)
    ∧ (win0_2.index t (0 : Fin 2) = 0 ∧ win0_2.index t (1 : Fin 2) = t.val % 6)
    ∧ (win0_3.index t (0 : Fin 2) = 0 ∧ win0_3.index t (1 : Fin 2) = t.val % 6)
    ∧ (win0_4.index t (0 : Fin 2) = t.val / 6 ∧ win0_4.index t (1 : Fin 2) = t.val % 6) :=
  (by decide +kernel : ∀ t : Fin grid0.N, _)

/-- A grid point is one of 192. -/
theorem t_lt (t : Fin cfg0.N) : t.val < 192 := lt_of_lt_of_eq t.isLt N_0

/-- Row `p` of row block `t / 6`. -/
def row (t : Fin cfg0.N) (p : Fin 1024) : Fin 32768 := ⟨t.val / 6 * 1024 + p.val, by have := t_lt t; omega⟩
/-- Column `q` of column block `t % 6`. -/
def col (t : Fin cfg0.N) (q : Fin 768) : Fin 4608 := ⟨t.val % 6 * 768 + q.val, by omega⟩

/-- The activations' block: row `p` of the block is row `row t p` of the array, columns whole. -/
theorem emb0 (t : Fin cfg0.N) (p : Fin 1024) (k : Fin 9216) :
    ((cfg0.win 0).blk t).view.emb (ix2 p k) = ix2 (row t p) k := by
  obtain ⟨-, ⟨e0, e1⟩, -⟩ := idx_facts t
  funext a; apply Fin.ext
  match a with
  | ⟨0, _⟩ => show win0_0.index t (0 : Fin 2) * 1024 + 1 * p.val = t.val / 6 * 1024 + p.val; omega
  | ⟨1, _⟩ => show win0_0.index t (1 : Fin 2) * 9216 + 1 * k.val = k.val; omega

/-- The row scales' block: entry `p` is the scale of row `row t p`. -/
theorem emb1 (t : Fin cfg0.N) (p : Fin 1024) (z : Fin 1) :
    ((cfg0.win 1).blk t).view.emb (ix2 p z) = ix2 (row t p) z := by
  obtain ⟨-, -, ⟨e0, e1⟩, -⟩ := idx_facts t
  funext a; apply Fin.ext
  match a with
  | ⟨0, _⟩ => show win0_1.index t (0 : Fin 2) * 1024 + 1 * p.val = t.val / 6 * 1024 + p.val; omega
  | ⟨1, _⟩ => show win0_1.index t (1 : Fin 2) * 1 + 1 * z.val = z.val; omega

/-- The weights' block: column `q` of the block is column `col t q` of the array, rows whole. -/
theorem emb2 (t : Fin cfg0.N) (k : Fin 9216) (q : Fin 768) :
    ((cfg0.win 2).blk t).view.emb (ix2 k q) = ix2 k (col t q) := by
  obtain ⟨-, -, -, ⟨e0, e1⟩, -⟩ := idx_facts t
  funext a; apply Fin.ext
  match a with
  | ⟨0, _⟩ => show win0_2.index t (0 : Fin 2) * 9216 + 1 * k.val = k.val; omega
  | ⟨1, _⟩ => show win0_2.index t (1 : Fin 2) * 768 + 1 * q.val = t.val % 6 * 768 + q.val; omega

/-- The column scales' block: entry `q` is the scale of column `col t q`. -/
theorem emb3 (t : Fin cfg0.N) (z : Fin 1) (q : Fin 768) :
    ((cfg0.win 3).blk t).view.emb (ix2 z q) = ix2 z (col t q) := by
  obtain ⟨-, -, -, -, ⟨e0, e1⟩, -⟩ := idx_facts t
  funext a; apply Fin.ext
  match a with
  | ⟨0, _⟩ => show win0_3.index t (0 : Fin 2) * 1 + 1 * z.val = z.val; omega
  | ⟨1, _⟩ => show win0_3.index t (1 : Fin 2) * 768 + 1 * q.val = t.val % 6 * 768 + q.val; omega

/-- The residual's block: its element `p`, `q` is the array's at `row t p`, `col t q`. -/
theorem emb4 (t : Fin cfg0.N) (p : Fin 1024) (q : Fin 768) :
    ((cfg0.win 4).blk t).view.emb (ix2 p q) = ix2 (row t p) (col t q) := by
  obtain ⟨-, -, -, -, -, ⟨e0, e1⟩⟩ := idx_facts t
  funext a; apply Fin.ext
  match a with
  | ⟨0, _⟩ => show win0_4.index t (0 : Fin 2) * 1024 + 1 * p.val = t.val / 6 * 1024 + p.val; omega
  | ⟨1, _⟩ => show win0_4.index t (1 : Fin 2) * 768 + 1 * q.val = t.val % 6 * 768 + q.val; omega

/-- The result's block: its element `p`, `q` is the array's at `row t p`, `col t q`. -/
theorem emb5 (t : Fin cfg0.N) (p : Fin 1024) (q : Fin 768) :
    ((cfg0.win 5).blk t).view.emb (ix2 p q) = ix2 (row t p) (col t q) := by
  obtain ⟨⟨e0, e1⟩, -⟩ := idx_facts t
  funext a; apply Fin.ext
  match a with
  | ⟨0, _⟩ => show win0_5.index t (0 : Fin 2) * 1024 + 1 * p.val = t.val / 6 * 1024 + p.val; omega
  | ⟨1, _⟩ => show win0_5.index t (1 : Fin 2) * 768 + 1 * q.val = t.val % 6 * 768 + q.val; omega

/-! ## The call's result as one function of the arrays that it finds -/

/-- The projection on flattened rows: the call's result from the arrays it stages. -/
def flat (X : Vec Ideal S32768x9216 .fp8e4m3) (XS : Vec Ideal S32768x1 .f32) (W : Vec Ideal S9216x4608 .fp8e4m3)
    (WS : Vec Ideal S1x4608 .f32) (R : Vec Ideal S32768x4608 .bf16) : Vec Ideal S32768x4608 .bf16 := fun i =>
  Spec.elem (fun k => X (ix2 (i 0) k)) (fun k => W (ix2 k (i 1))) (XS (ix2 (i 0) 0)) (WS (ix2 0 (i 1))) (R i)

/-- `flat` at a row and a column. -/
theorem flat_apply (X : Vec Ideal S32768x9216 .fp8e4m3) (XS : Vec Ideal S32768x1 .f32) (W : Vec Ideal S9216x4608 .fp8e4m3)
    (WS : Vec Ideal S1x4608 .f32) (R : Vec Ideal S32768x4608 .bf16) (r : Fin 32768) (n : Fin 4608) :
    flat X XS W WS R (ix2 r n)
      = Spec.elem (fun k => X (ix2 r k)) (fun k => W (ix2 k n)) (XS (ix2 r 0)) (WS (ix2 0 n)) (R (ix2 r n)) := rfl

variable (m : (ℓ : Loc nD τ sig) → Buf (Elt Ideal) ℓ) (ρ : Dev nD → PrngReg)

/-- What point `t` writes back is its block of `flat` of the arrays as the call finds them. -/
theorem flushed_eq (c : Dev nD) (t : Fin cfg0.N) :
    (dats m 0 c).flushed 5 t = ((cfg0.win 5).blk t).view.read (Elt Ideal)
      (flat (V m c main_v0) (V m c main_v1) (V m c main_arg2) (V m c main_v2) (V m c main_v3)) := by
  show (cfg0.win 5).cut (grid0.coords t) ((dats m 0 c).after 5 t) = _
  rw [after0_5, out_eq]
  funext j
  obtain ⟨p, q, rfl⟩ : ∃ (p : Fin 1024) (q : Fin 768), j = ix2 p q := ⟨j 0, j 1, eq_ix2 j⟩
  show k0_pay1 (F := Ideal) (iblk m c 0 t) (iblk m c 2 t) (iblk m c 1 t) (iblk m c 3 t) (iblk m c 4 t) (ix2 p q)
    = flat (V m c main_v0) (V m c main_v1) (V m c main_arg2) (V m c main_v2) (V m c main_v3)
        (((cfg0.win 5).blk t).view.emb (ix2 p q))
  rw [Spec.block_apply, emb5, flat_apply]
  have h0 : ∀ k : Fin 9216, iblk m c 0 t (ix2 p k) = V m c main_v0 (ix2 (row t p) k) := fun k => by
    show V m c main_v0 (((cfg0.win 0).blk t).view.emb (ix2 p k)) = _; rw [emb0]
  have h1 : iblk m c 1 t (ix2 p (0 : Fin 1)) = V m c main_v1 (ix2 (row t p) (0 : Fin 1)) := by
    show V m c main_v1 (((cfg0.win 1).blk t).view.emb (ix2 p (0 : Fin 1))) = _; rw [emb1]
  have h2 : ∀ k : Fin 9216, iblk m c 2 t (ix2 k q) = V m c main_arg2 (ix2 k (col t q)) := fun k => by
    show V m c main_arg2 (((cfg0.win 2).blk t).view.emb (ix2 k q)) = _; rw [emb2]
  have h3 : iblk m c 3 t (ix2 (0 : Fin 1) q) = V m c main_v2 (ix2 (0 : Fin 1) (col t q)) := by
    show V m c main_v2 (((cfg0.win 3).blk t).view.emb (ix2 (0 : Fin 1) q)) = _; rw [emb3]
  have h4 : iblk m c 4 t (ix2 p q) = V m c main_v3 (ix2 (row t p) (col t q)) := by
    show V m c main_v3 (((cfg0.win 4).blk t).view.emb (ix2 p q)) = _; rw [emb4]
  rw [h1, h3, h4, funext h0, funext h2]

/-- Every index of the call's result lies in the block of a point that writes back. -/
theorem covered (i : S32768x4608.Idx) :
    ∃ t : Fin cfg0.N, (cfg0.win 5).flush t = true ∧ i ∈ ((cfg0.win 5).blk t).view.set := by
  obtain ⟨r, n, rfl⟩ : ∃ (r : Fin 32768) (n : Fin 4608), i = ix2 r n := ⟨i 0, i 1, eq_ix2 i⟩
  have hr := r.isLt
  have hn := n.isLt
  have hp : r.val % 1024 < 1024 := Nat.mod_lt _ (by decide)
  have hq : n.val % 768 < 768 := Nat.mod_lt _ (by decide)
  have ht : r.val / 1024 * 6 + n.val / 768 < 192 := by omega
  refine ⟨⟨r.val / 1024 * 6 + n.val / 768, by show _ < grid0.N; rw [N_0]; exact ht⟩, flush0_5 _, ?_⟩
  have h := ((cfg0.win 5).blk ⟨r.val / 1024 * 6 + n.val / 768, by show _ < grid0.N; rw [N_0]; exact ht⟩).view.emb_mem_set
    (ix2 (⟨r.val % 1024, hp⟩ : Fin 1024) (⟨n.val % 768, hq⟩ : Fin 768))
  rw [emb5] at h
  have e0 : row ⟨r.val / 1024 * 6 + n.val / 768, by show _ < grid0.N; rw [N_0]; exact ht⟩ ⟨r.val % 1024, hp⟩ = r :=
    Fin.ext (by show (r.val / 1024 * 6 + n.val / 768) / 6 * 1024 + r.val % 1024 = r.val; omega)
  have e1 : col ⟨r.val / 1024 * 6 + n.val / 768, by show _ < grid0.N; rw [N_0]; exact ht⟩ ⟨n.val % 768, hq⟩ = n :=
    Fin.ext (by show (r.val / 1024 * 6 + n.val / 768) % 6 * 768 + n.val % 768 = n.val; omega)
  rw [e0, e1] at h
  exact h

/-- The call's result after the run. -/
theorem final (c : Dev nD) : (dats m 0 c).arrAt 5 cfg0.N
    = flat (V m c main_v0) (V m c main_v1) (V m c main_arg2) (V m c main_v2) (V m c main_v3) :=
  (dats m 0 c).arrAt_eq_of_cover 5 _ (fun t _ => flushed_eq m c t) covered

/-! ## The host's reshapes around the call -/

/-- The call finds the activations with batch and position flattened into rows. -/
theorem V_v0 (c : Dev nD) : V m c main_v0
    = shapeCast S32768x9216 (m ((c : Thread nD τ).loc main_arg0)) shapeCasts_S4x8192x9216_S32768x9216 := by
  show StableHlo.after (hostOps0 (F := Ideal)) (fun b => m (c, b)) (Proc.devRef .tc main_v0) = _
  after_results
  rfl

/-- The call finds the row scales flattened the same way. -/
theorem V_v1 (c : Dev nD) : V m c main_v1
    = shapeCast S32768x1 (m ((c : Thread nD τ).loc main_arg1)) shapeCasts_S4x8192x1_S32768x1 := by
  show StableHlo.after (hostOps0 (F := Ideal)) (fun b => m (c, b)) (Proc.devRef .tc main_v1) = _
  after_results
  rfl

/-- The call finds the column scales as one row. -/
theorem V_v2 (c : Dev nD) : V m c main_v2
    = shapeCast S1x4608 (m ((c : Thread nD τ).loc main_arg3)) shapeCasts_S4608_S1x4608 := by
  show StableHlo.after (hostOps0 (F := Ideal)) (fun b => m (c, b)) (Proc.devRef .tc main_v2) = _
  after_results
  rfl

/-- The call finds the residual with batch and position flattened into rows. -/
theorem V_v3 (c : Dev nD) : V m c main_v3
    = shapeCast S32768x4608 (m ((c : Thread nD τ).loc main_arg4)) shapeCasts_S4x8192x4608_S32768x4608 := by
  show StableHlo.after (hostOps0 (F := Ideal)) (fun b => m (c, b)) (Proc.devRef .tc main_v3) = _
  after_results
  rfl

/-- The program's result from its arguments: `flat` of the flattened arguments, its rows split again into batch and
    position. -/
def result (x : Vec Ideal S4x8192x9216 .fp8e4m3) (xs : Vec Ideal S4x8192x1 .f32) (w : Vec Ideal S9216x4608 .fp8e4m3)
    (ws : Vec Ideal S4608 .f32) (r : Vec Ideal S4x8192x4608 .bf16) : Vec Ideal S4x8192x4608 .bf16 :=
  shapeCast S4x8192x4608
    (flat (shapeCast S32768x9216 x shapeCasts_S4x8192x9216_S32768x9216) (shapeCast S32768x1 xs shapeCasts_S4x8192x1_S32768x1)
      w (shapeCast S1x4608 ws shapeCasts_S4608_S1x4608)
      (shapeCast S32768x4608 r shapeCasts_S4x8192x4608_S32768x4608))
    shapeCasts_S32768x4608_S4x8192x4608

/-- The reshape after the call carries the call's result to the program's result. -/
theorem tail_v5 (c : Dev nD) : Pipeline.afterTail₀ cfgs (dats m) 0 (V0 m) [hostOps1] c main_v5
    = result (m ((c : Thread nD τ).loc main_arg0)) (m ((c : Thread nD τ).loc main_arg1)) (m ((c : Thread nD τ).loc main_arg2))
        (m ((c : Thread nD τ).loc main_arg3)) (m ((c : Thread nD τ).loc main_arg4)) := by
  have hA := (Pipeline.withArrays_arr spec0 (by decide) c (V0 m c) (fun w => (dats m 0 c).arrAt w cfg0.N) 5).trans (final m c)
  rw [V_v0, V_v1, V_v2, V_v3, V_main_arg2] at hA
  unfold Pipeline.afterTail₀ result
  rw [← hA]
  show StableHlo.after (hostOps1 (F := Ideal)) _ (Proc.devRef .tc main_v5) = _
  after_results
  rfl

/-- The run: the program's result is `result` of its arguments, and the arguments end as launched. -/
theorem run : θ_run defs (onTc (τ := τ) (main (F := Ideal))) ⟨m, fun _ => 0, ρ⟩ fun r => ∀ c : Dev nD,
      r.2.mem ((c.tc : Thread nD τ).loc main_v5) = result (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v5 (Pipeline.mem_restRefs_of main_v5 (by decide) (by decide))).trans (tail_v5 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Proof.KernelValue

end
-- ==== Proof.Equation.lean ====
/-
  Hand-written, untrusted. THE EQUATION: the kernel's result, computed on flattened rows, is the reference's result over the
  extended reals, and the two runs put side by side.
-/
module

public import proofs.«01_k».proof.Proof.KernelValue
public import proofs.«01_k».proof.Proof.Gen.ReferenceIdeal.Value

@[expose] public section

set_option maxRecDepth 16384

noncomputable section

namespace Cert.Proof.Equation

open Idealize.ShloMosaic Idealize.ShloMosaic.TcCoe Idealize.SL.Sem

/-- The kernel's result at batch `b`, position `s`, output channel `n`: flattening and splitting the rows cancel. -/
theorem result_apply (x : Vec Ideal Cert.KernelIdeal.S4x8192x9216 .fp8e4m3) (xs : Vec Ideal Cert.KernelIdeal.S4x8192x1 .f32)
    (w : Vec Ideal Cert.KernelIdeal.S9216x4608 .fp8e4m3) (ws : Vec Ideal Cert.KernelIdeal.S4608 .f32)
    (r : Vec Ideal Cert.KernelIdeal.S4x8192x4608 .bf16) (b : Fin 4) (s : Fin 8192) (n : Fin 4608) :
    KernelValue.result x xs w ws r (ix3 b s n)
      = Spec.elem (fun k => x (ix3 b s k)) (fun k => w (ix2 k n)) (xs (ix3 b s 0)) (ws (ix1 n)) (r (ix3 b s n)) := by
  unfold KernelValue.result
  pointwise
  rw [KernelValue.flat_apply]
  pointwise

/-- The kernel's result is the reference's. -/
theorem result_eq (x : Vec Ideal Cert.KernelIdeal.S4x8192x9216 .fp8e4m3) (xs : Vec Ideal Cert.KernelIdeal.S4x8192x1 .f32)
    (w : Vec Ideal Cert.KernelIdeal.S9216x4608 .fp8e4m3) (ws : Vec Ideal Cert.KernelIdeal.S4608 .f32)
    (r : Vec Ideal Cert.KernelIdeal.S4x8192x4608 .bf16) :
    Cert.ReferenceIdeal.Value.G5 (F := Ideal) x xs w ws r = KernelValue.result x xs w ws r := by
  funext j
  obtain ⟨b, s, n, rfl⟩ : ∃ (b : Fin 4) (s : Fin 8192) (n : Fin 4608), j = ix3 b s n := ⟨j 0, j 1, j 2, eq_ix3 j⟩
  exact (Spec.ref_apply x w xs ws r b s n).trans (result_apply x xs w ws r b s n).symm

/-- The value claim: from equal arguments both programs end with equal results and unchanged arguments. -/
theorem algebraic : Cert.algebraic_KernelIdeal_ReferenceIdeal
    (hKernelIdeal := Cert.KernelIdeal.Gen.facts) (hReferenceIdeal := Cert.ReferenceIdeal.Gen.facts) := by
  intro m g m' g' _ hargs
  refine ⟨_, KernelValue.run m g, (θ_run _ _ _).mono (fun r h c => ?_) (Cert.ReferenceIdeal.Value.run (F := Ideal) m' g')⟩
  obtain ⟨e0, e1, e2, e3, e4⟩ := hargs c
  refine ⟨(h c).1.trans ?_, (h c).2⟩
  rw [e0, e1, e2, e3, e4]
  exact result_eq _ _ _ _ _

end Cert.Proof.Equation

end
-- ==== Proof.lean ====
/-
  Hand-written, untrusted. THE CERTIFICATE: the stated facts, the three frames, the preservation and the value claim.
-/
module

public import proofs.«01_k».proof.Defs
public import proofs.«01_k».proof.Proof.Gen.Kernel.Frame
public import proofs.«01_k».proof.Proof.Gen.KernelIdeal.Frame
public import proofs.«01_k».proof.Proof.Gen.ReferenceIdeal.Frame
public import proofs.«01_k».proof.Proof.Equation

@[expose] public section

noncomputable section

namespace Cert.Proof

/-- Every claim of the certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, Equation.algebraic⟩

end Cert.Proof

end
